-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0_0)) (v1 : (c : Dev Cert.Kernel.nD) → Buf (Elt Bits) ((c.tc : Thread Cert.Kernel.nD Cert.Kernel.τ).loc Cert.Kernel.main_v0_1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0_0) = v0 c
          ∧ r.2.mem ((c.tc : Thread Cert.Kernel.nD Cert.Kernel.τ).loc Cert.Kernel.main_v0_1) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg1) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1000000x16 : Shape := ⟨2, ![1000000, 16]⟩
abbrev S8000x16 : Shape := ⟨2, ![8000, 16]⟩

abbrev nBuf : Space → Nat
  | .hbm => 4
  | .vmem => 8
  | .smem => 0
  | _ => 0

abbrev bufTy : (tb : Table) → Fin (tcTables nBuf tb) → BufTy
  | .hbm, ⟨0, _⟩ => ⟨S1000000x16, .f32⟩
  | .hbm, ⟨1, _⟩ => ⟨S1000000x16, .f32⟩
  | .hbm, ⟨2, _⟩ => ⟨S1000000x16, .f32⟩
  | .hbm, ⟨3, _⟩ => ⟨S1000000x16, .f32⟩
  | .local _ .vmem, ⟨0, _⟩ => ⟨S8000x16, .f32⟩
  | .local _ .vmem, ⟨1, _⟩ => ⟨S8000x16, .f32⟩
  | .local _ .vmem, ⟨2, _⟩ => ⟨S8000x16, .f32⟩
  | .local _ .vmem, ⟨3, _⟩ => ⟨S8000x16, .f32⟩
  | .local _ .vmem, ⟨4, _⟩ => ⟨S8000x16, .f32⟩
  | .local _ .vmem, ⟨5, _⟩ => ⟨S8000x16, .f32⟩
  | .local _ .vmem, ⟨6, _⟩ => ⟨S8000x16, .f32⟩
  | .local _ .vmem, ⟨7, _⟩ => ⟨S8000x16, .f32⟩
  | _, _ => ⟨S1000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference.lean ====
abbrev S1000000x16 : Shape := ⟨2, ![1000000, 16]⟩

abbrev nBuf : Space → Nat
  | .hbm => 2
  | .vmem => 0
  | .smem => 0
  | _ => 0

abbrev bufTy : (tb : Table) → Fin (tcTables nBuf tb) → BufTy
  | .hbm, ⟨0, _⟩ => ⟨S1000000x16, .f32⟩
  | .hbm, ⟨1, _⟩ => ⟨S1000000x16, .f32⟩
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩

abbrev nD : Nat := 1
abbrev τ : Topo := Topo.v7x

variable {F : FTy → Type} [FloatOps F]
-- ==== Proof.KernelIdealCopies.lean ====
/- What the idealized kernel's two result arrays hold after the run: its two argument arrays, element by element, at any float
   instance. Each of the 125 grid points copies one block of 8000 rows of each table, and the blocks tile the tables. -/
module

public import proofs.«01_k».proof.Proof.Gen.KernelIdeal.Value
public import Idealize.ShloMosaic.Lib.Pipeline.ValueKit
public import Idealize.ShloMosaic.Lib.Claim

@[expose] public section

noncomputable section

namespace Cert.KernelIdeal.Copy

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The offsets `![0, 0]` of the kernel's loads and stores are zero on both axes. -/
theorem offsets_zero : (![0, 0] : Fin S8000x16.rank → Nat) = fun _ => 0 := by
  funext a; fin_cases a <;> rfl

/-- What the body leaves in the first output's buffer is the first input's block, unchanged. -/
theorem users_block (x y : Vec F S8000x16 .f32) : out0_2 x y = x := by
  unfold out0_2
  rw [View.canon_unit_zero offsets_zero, View.ld_unit_zero offsets_zero]

/-- What the body leaves in the second output's buffer is the second input's block, unchanged. -/
theorem items_block (x y : Vec F S8000x16 .f32) : out0_3 x y = y := by
  unfold out0_3
  rw [View.canon_unit_zero offsets_zero, View.ld_unit_zero offsets_zero]

/-- After the last point the first result array holds the first argument array. -/
theorem users_array (c : Dev nD) :
    (dats m 0 c).arrAt 2 cfg0.N = m ((c : Thread nD τ).loc main_arg0) := by
  refine (dats m 0 c).arrAt_eq_of_covers 2 _ (by decide +kernel) fun t _ y => ?_
  rw [after0_2, users_block]
  rfl

/-- After the last point the second result array holds the second argument array. -/
theorem items_array (c : Dev nD) :
    (dats m 0 c).arrAt 3 cfg0.N = m ((c : Thread nD τ).loc main_arg1) := by
  refine (dats m 0 c).arrAt_eq_of_covers 3 _ (by decide +kernel) fun t _ y => ?_
  rw [after0_3, items_block]
  rfl

/-- The idealized kernel's run: both results end equal to the arguments, which stay as they were. -/
theorem run : θ_run defs (onTc (τ := τ) (main (F := F))) ⟨m, fun _ => 0, ρ⟩ fun r => ∀ c : Dev nD,
      r.2.mem ((c : Thread nD τ).loc main_v0_0) = m ((c : Thread nD τ).loc main_arg0)
      ∧ r.2.mem ((c : Thread nD τ).loc main_v0_1) = m ((c : Thread nD τ).loc main_arg1)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun _ h c => ⟨(h c).1.trans (users_array m c), (h c).2.1.trans (items_array m c), (h c).2.2⟩)
    (Value.run_blocks m ρ)

end Cert.KernelIdeal.Copy

end
-- ==== Proof.ReferenceKeeps.lean ====
/- The reference's run: it returns its two arguments and does nothing else, so every array stays as it was and, as it
   declares no semaphore, every counter is zero. -/
module

public import proofs.«01_k».proof.Proof.Gen.Reference
public import Idealize.ShloMosaic.Lib.Claim

@[expose] public section

noncomputable section

namespace Cert.Reference.Kept

open Cert.Reference Cert.Reference.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The reference runs, and both of its arrays, which are its results too, end as they were. -/
theorem run : θ_run defs (onTc (τ := τ) (main (F := F))) ⟨m, fun _ => 0, ρ⟩ fun r => ∀ c : Dev nD,
      r.2.mem ((c : Thread nD τ).loc main_arg0) = m ((c : Thread nD τ).loc main_arg0)
      ∧ r.2.mem ((c : Thread nD τ).loc main_arg1) = m ((c : Thread nD τ).loc main_arg1) := by
  hlo_run

/-- The same run with its counters, which end at zero. -/
theorem run_quiescent : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  θ_run_mono (run m ρ) fun r h => ⟨h, sem_eq_zero_of_no_sems (by decide) r.2⟩

end Cert.Reference.Kept

end
-- ==== Proof.ReferenceIdealKeeps.lean ====
/- The idealized reference's run: it returns its two arguments and does nothing else, so every array stays as it was and, as it
   declares no semaphore, every counter is zero. -/
module

public import proofs.«01_k».proof.Proof.Gen.ReferenceIdeal
public import Idealize.ShloMosaic.Lib.Claim

@[expose] public section

noncomputable section

namespace Cert.ReferenceIdeal.Kept

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The idealized reference runs, and both of its arrays, which are its results too, end as they were. -/
theorem run : θ_run defs (onTc (τ := τ) (main (F := F))) ⟨m, fun _ => 0, ρ⟩ fun r => ∀ c : Dev nD,
      r.2.mem ((c : Thread nD τ).loc main_arg0) = m ((c : Thread nD τ).loc main_arg0)
      ∧ r.2.mem ((c : Thread nD τ).loc main_arg1) = m ((c : Thread nD τ).loc main_arg1) := by
  hlo_run

/-- The same run with its counters, which end at zero. -/
theorem run_quiescent : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  θ_run_mono (run m ρ) fun r h => ⟨h, sem_eq_zero_of_no_sems (by decide) r.2⟩

end Cert.ReferenceIdeal.Kept

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Kernel.Frame
public import proofs.«01_k».proof.Proof.Gen.KernelIdeal.Frame
public import proofs.«01_k».proof.Proof.Gen.Kernel.Value
public import proofs.«01_k».proof.Proof.Gen.KernelIdeal.Value
public import proofs.«01_k».proof.Proof.KernelCopies
public import proofs.«01_k».proof.Proof.KernelIdealCopies
public import proofs.«01_k».proof.Proof.ReferenceKeeps
public import proofs.«01_k».proof.Proof.ReferenceIdealKeeps

@[expose] public section

noncomputable section

namespace Cert.Proof

open Idealize.ShloMosaic Idealize.SL.Sem

/-- The kernel runs, keeps its arguments and leaves every counter at zero. -/
theorem frame_kernel : Cert.quiescent_Kernel := fun m ρ _ => Cert.Kernel.Gen.frame m ρ

/-- So does the idealized kernel. -/
theorem frame_kernel_ideal : Cert.quiescent_KernelIdeal := fun m ρ _ => Cert.KernelIdeal.Gen.frame m ρ

/-- So does the idealized reference. -/
theorem frame_reference_ideal : Cert.quiescent_ReferenceIdeal :=
  fun m ρ _ => Cert.ReferenceIdeal.Kept.run_quiescent m ρ

/-- So does the reference. -/
theorem frame_reference : Cert.quiescent_Reference := fun m ρ _ => Cert.Reference.Kept.run_quiescent m ρ

/-- Over the extended reals both results of the kernel are the reference's: the two argument tables. -/
theorem algebraic : Cert.algebraic_KernelIdeal_ReferenceIdeal := fun m ρ m' ρ' _ hagree =>
  ⟨_, _, Cert.KernelIdeal.Copy.run m ρ, θ_run_mono (Cert.ReferenceIdeal.Kept.run m' ρ') fun _ h c =>
    ⟨(h c).1.trans (hagree c).1, (h c).2.trans (hagree c).2, h c⟩⟩

/-- The kernel's results are also the reference's word by word. -/
theorem bitexact : Cert.bitexact_Kernel_Reference := fun m ρ m' ρ' _ hagree =>
  ⟨_, _, Cert.Kernel.Copy.run m ρ, θ_run_mono (Cert.Reference.Kept.run m' ρ') fun _ h c =>
    ⟨(h c).1.trans (hagree c).1, (h c).2.trans (hagree c).2, h c⟩⟩

/-- The whole claim: four frames, the idealization, and the two equalities of the results. -/
theorem claim : Cert.Claim :=
  ⟨Cert.Kernel.Gen.facts, Cert.KernelIdeal.Gen.facts, Cert.ReferenceIdeal.Gen.facts, Cert.Reference.Gen.facts,
    frame_kernel, frame_kernel_ideal, frame_reference_ideal, frame_reference, trivial, algebraic, bitexact⟩

end Cert.Proof

end
